-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  bcast_S_S64x2048 : S_.BroadcastsInDim S64x2048 (![] : Fin 0 → Fin S64x2048.rank)

variable [Facts]

def fn {F : FTy → Type} [FloatOps F] (main_arg0 : FVec F S16384x2048 .f32) (main_arg1 : FVec F S64x2048 .f32) : IVec S16384x2048 1 × IVec S64x2048 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S64x2048 .f32 := Host.absf main_arg1
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  (main_v2, main_v5)
-- ==== Kernel.lean ====
abbrev S16384x2048 : Shape := ⟨2, ![16384, 2048]⟩
abbrev S64x2048 : Shape := ⟨2, ![64, 2048]⟩
abbrev S64x16384 : Shape := ⟨2, ![64, 16384]⟩
abbrev S8x16384 : Shape := ⟨2, ![8, 16384]⟩
abbrev S1024x2048 : Shape := ⟨2, ![1024, 2048]⟩
abbrev S64x1024 : Shape := ⟨2, ![64, 1024]⟩
abbrev S8x1024 : Shape := ⟨2, ![8, 1024]⟩
abbrev S1024 : Shape := ⟨1, ![1024]⟩
abbrev S1x1024 : Shape := ⟨2, ![1, 1024]⟩
abbrev S16384x64 : Shape := ⟨2, ![16384, 64]⟩
abbrev S16384x8 : Shape := ⟨2, ![16384, 8]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x16384, .f32⟩
  | .hbm, ⟨3, _⟩ => ⟨S8x16384, .f32⟩
  | .hbm, ⟨4, _⟩ => ⟨S8x16384, .i32⟩
  | .hbm, ⟨5, _⟩ => ⟨S16384x64, .f32⟩
  | .hbm, ⟨6, _⟩ => ⟨S16384x8, .f32⟩
  | .hbm, ⟨7, _⟩ => ⟨S16384x8, .i32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x1024, .f32⟩
  | .local _ .vmem, ⟨4, _⟩ => ⟨S64x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .i32⟩
  | .local _ .vmem, ⟨8, _⟩ => ⟨S8x1024, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S16384x8, .f32⟩
  | .hbm, ⟨19, _⟩ => ⟨S16384x8, .i32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x8, .f32⟩
  | .hbm, ⟨24, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Picks.lean ====
/-
  ONE TOKEN'S TOP-8 WITHOUT ARRAYS. A token has 64 scores `p : Fin 64 → EReal`. The reference sorts the experts by score,
  greatest first, keeping the order of equal scores (`order p`). The kernel repeats a round: the greatest remaining score, the
  lowest expert that holds it, and that expert's score replaced by `⊥`. As long as no score is `⊥` to begin with, round `r`
  picks the `r`-th expert of the sort.
-/
module

public import Idealize.ShloMosaic.Lib.SortPrefix
public import Idealize.ShloMosaic.Lib.SortNet.Extract
public import Idealize.ShloMosaic.PureOps.Ideal.Laws

@[expose] public section

noncomputable section

namespace Cert.Router

open Idealize.ShloMosaic

/-- The reference's comparator: expert `a` goes before expert `b` when its score is greater. -/
def above (p : Fin 64 → EReal) (a b : Fin 64) : Bool := decide (p b < p a)

/-- The same comparator with ties decided by the expert's number. -/
def aboveOrFirst (p : Fin 64 → EReal) (a b : Fin 64) : Bool := above p a b || (decide (p a = p b) && decide (a < b))

/-- The experts by score, greatest first, equal scores in the order of their numbers: entry `r`. -/
def order (p : Fin 64 → EReal) (r : Fin 64) : Fin 64 := sortedFrom (above p) r

/-- The scores after `r` rounds: the experts already picked hold `⊥`. -/
def left (p : Fin 64 → EReal) (r : Nat) (e : Fin 64) : EReal := if ∃ j : Fin 64, j.val < r ∧ order p j = e then ⊥ else p e

/-- A stable sort of an increasing list does not see a tie rule that favours the lower element. -/
theorem stableSort_tie {n : Nat} {R T : Fin n → Fin n → Bool} (h : ∀ a b, a < b → R b a = T b a) :
    ∀ l : List (Fin n), l.Pairwise (· < ·) → stableSort R l = stableSort T l
  | [], _ => rfl
  | a :: l, hl => by
    rw [List.pairwise_cons] at hl
    unfold stableSort
    rw [stableSort_tie h l hl.2]
    exact insertBefore_congr R T a _ fun b hb => h a b (hl.1 b ((perm_stableSort T l).mem_iff.mp hb))

/-- A comparator with such a tie rule gives the same order of the positions. -/
theorem sortedFrom_tie {n : Nat} {R T : Fin n → Fin n → Bool} (h : ∀ a b, a < b → R b a = T b a) :
    sortedFrom R = sortedFrom T := by
  have hs : sortPositions n R = sortPositions n T := stableSort_tie h _ (List.pairwise_lt_finRange n)
  funext r
  simp only [sortedFrom, List.get_eq_getElem, hs, Fin.val_cast]

/-- Sorting by score alone and sorting by score and then number give one order. -/
theorem order_eq (p : Fin 64 → EReal) : order p = sortedFrom (aboveOrFirst p) :=
  sortedFrom_tie fun a b hab => by simp [aboveOrFirst, not_lt_of_gt hab]

/-- Score and then number is a strict total order on the experts. -/
theorem strictTotal (p : Fin 64 → EReal) : StrictTotalBefore (aboveOrFirst p) :=
  StrictTotalBefore.of_key_then_position (fun x y : EReal => decide (y < x)) p (fun a => by simp)
    (fun a b c hab hbc => by simp only [decide_eq_true_eq] at *; exact lt_trans hbc hab)
    (fun a b => by simpa [eq_comm, or_comm, or_left_comm] using lt_trichotomy b a)

/-- No expert comes twice in the order. -/
theorem order_injective (p : Fin 64 → EReal) : Function.Injective (order p) := sortedFrom_injective _

/-- Every expert comes somewhere in the order. -/
theorem order_surjective (p : Fin 64 → EReal) : Function.Surjective (order p) := sortedFrom_surjective _

/-- Entry `r` scores at least as much as any later entry, and more than a later entry of lower number. -/
theorem order_later (p : Fin 64 → EReal) {r j : Fin 64} (h : r < j) :
    p (order p j) ≤ p (order p r) ∧ (order p j < order p r → p (order p j) < p (order p r)) := by
  have hB := strictTotal p
  have hno := sortedFrom_noInversion (aboveOrFirst p) (aboveOrFirst p) (fun a b h => hB.asymm a b h) (fun _ _ h => h)
    hB.negTrans r j h
  rw [← order_eq] at hno
  simp only [aboveOrFirst, above, Bool.or_eq_false_iff, decide_eq_false_iff_not, not_lt, Bool.and_eq_false_iff] at hno
  refine ⟨hno.1, fun hlt => lt_of_le_of_ne hno.1 fun heq => ?_⟩
  rcases hno.2 with h' | h'
  · exact h' heq
  · exact absurd hlt (not_lt.mpr h')

/-- Before the first round every expert holds its own score. -/
theorem left_zero (p : Fin 64 → EReal) : left p 0 = p := by
  funext e; simp [left]

/-- Expert `order p r` still holds its score in round `r`. -/
theorem left_order (p : Fin 64 → EReal) (r : Fin 64) : left p r.val (order p r) = p (order p r) := by
  unfold left
  rw [if_neg]
  rintro ⟨j, hj, he⟩
  exact absurd (congrArg Fin.val (order_injective p he)) (Nat.ne_of_lt hj)

/-- A round replaces the picked expert's score by `⊥` and keeps the rest. -/
theorem left_succ (p : Fin 64 → EReal) (r : Fin 64) (e : Fin 64) :
    left p (r.val + 1) e = if e = order p r then ⊥ else left p r.val e := by
  unfold left
  by_cases h : e = order p r
  · rw [if_pos h, if_pos ⟨r, Nat.lt_succ_self _, h.symm⟩]
  · rw [if_neg h]
    refine if_congr ⟨?_, ?_⟩ rfl rfl
    · rintro ⟨j, hj, he⟩
      refine ⟨j, lt_of_le_of_ne (Nat.lt_succ_iff.mp hj) fun hjr => h ?_, he⟩
      rw [← he, Fin.ext hjr]
    · rintro ⟨j, hj, he⟩
      exact ⟨j, Nat.lt_succ_of_lt hj, he⟩

/-- In round `r` expert `order p r` holds the greatest score, and every expert of lower number holds less. -/
theorem left_greatest (p : Fin 64 → EReal) (hp : ∀ e, p e ≠ ⊥) (r e : Fin 64) :
    left p r.val e ≤ p (order p r) ∧ (e < order p r → left p r.val e < p (order p r)) := by
  obtain ⟨j, rfl⟩ := order_surjective p e
  by_cases hj : j.val < r.val
  · have h : left p r.val (order p j) = ⊥ := if_pos ⟨j, hj, rfl⟩
    rw [h]
    exact ⟨bot_le, fun _ => bot_lt_iff_ne_bot.mpr (hp _)⟩
  · have h : left p r.val (order p j) = p (order p j) := by
      refine if_neg ?_
      rintro ⟨i, hi, he⟩
      exact hj (order_injective p he ▸ hi)
    rw [h]
    rcases lt_or_eq_of_le (Fin.le_def.mpr (not_lt.mp hj)) with hlt | heq
    · exact order_later p hlt
    · subst heq
      exact ⟨le_refl _, fun h' => absurd h' (lt_irrefl _)⟩

/-- The greatest of 64 scores, as a fold from `⊥`. -/
def top (q : Fin 64 → EReal) : EReal := (Finset.univ : Finset (Fin 64)).fold max ⊥ q

/-- A score that none exceeds is the greatest. -/
theorem top_eq {q : Fin 64 → EReal} {e : Fin 64} (h : ∀ i, q i ≤ q e) : top q = q e :=
  le_antisymm (Finset.fold_max_le _ |>.mpr ⟨bot_le, fun i _ => h i⟩)
    (Finset.le_fold_max _ |>.mpr (Or.inr ⟨e, Finset.mem_univ _, le_refl _⟩))

/-- The greatest score left in round `r` is that of the `r`-th expert of the order. -/
theorem top_left (p : Fin 64 → EReal) (hp : ∀ e, p e ≠ ⊥) (r : Fin 64) : top (left p r.val) = p (order p r) := by
  have h := top_eq (q := left p r.val) (e := order p r) fun i => by
    rw [left_order]; exact (left_greatest p hp r i).1
  rw [h, left_order]

/-- The number of the lowest expert holding the value `v`, as the kernel folds it: the signed minimum, over the experts, of
    the number where the score is `v` and of 64 elsewhere. -/
def firstAt (q : Fin 64 → EReal) (v : EReal) : BitVec 32 :=
  (Finset.univ : Finset (Fin 64)).fold IntOp.minsi 2147483647#32 fun e => if q e = v then BitVec.ofNat 32 e.val else 64#32

/-- A word of a number below `2 ^ 31` read as a signed integer is the number. -/
theorem toInt_word {n : Nat} (h : n < 2 ^ 31) : (BitVec.ofNat 32 n).toInt = n := by
  rw [BitVec.toInt_eq_toNat_cond, BitVec.toNat_ofNat, Nat.mod_eq_of_lt (by omega)]
  split_ifs <;> omega

/-- If expert `e` holds the value and no expert of lower number does, the fold gives `e`'s number. -/
theorem firstAt_eq {q : Fin 64 → EReal} {e : Fin 64} {v : EReal} (he : q e = v) (hlow : ∀ i < e, q i ≠ v) :
    firstAt q v = BitVec.ofNat 32 e.val := by
  refine BitVec.eq_of_toInt_eq ?_
  unfold firstAt
  rw [← Finset.fold_hom (m := BitVec.toInt) SortNet.toInt_minsi]
  have hval : ∀ i : Fin 64, (BitVec.ofNat 32 i.val).toInt = i.val := fun i => toInt_word (by omega)
  refine le_antisymm ?_ ?_
  · refine (Finset.fold_min_le _).mpr (Or.inr ⟨e, Finset.mem_univ _, ?_⟩)
    rw [if_pos he]
  · refine (Finset.le_fold_min _).mpr ⟨?_, fun i _ => ?_⟩
    · rw [hval, show (2147483647#32 : BitVec 32).toInt = 2147483647 from by decide]; omega
    · by_cases hi : q i = v
      · rw [if_pos hi, hval, hval]
        exact_mod_cast not_lt.mp fun hlt => hlow i hlt hi
      · rw [if_neg hi, hval, show (64#32 : BitVec 32).toInt = 64 from by decide]; omega

/-- In round `r` the lowest expert holding the greatest score left is the `r`-th expert of the order. -/
theorem firstAt_left (p : Fin 64 → EReal) (hp : ∀ e, p e ≠ ⊥) (r : Fin 64) :
    firstAt (left p r.val) (top (left p r.val)) = BitVec.ofNat 32 (order p r).val := by
  rw [top_left p hp r]
  exact firstAt_eq (left_order p r) fun i hi => ne_of_lt ((left_greatest p hp r i).2 hi)

end Cert.Router

end
-- ==== Proof.Round.lean ====
/-
  ONE ROUND ON A BLOCK. A block holds 64 scores in each of its 1024 columns, one column per token. A round is three functions
  of the block: the row of column maxima, the row of the lowest experts that hold them, and the block with those experts'
  scores replaced by `⊥`. Each is read here in a column, and eight rounds are followed by induction.
-/
module

public import proofs.«01_k».proof.Proof.Gen.KernelIdeal.Skeleton
public import proofs.«01_k».proof.Proof.Picks
public import Idealize.ShloMosaic.Lib.ValueIdx
public import Idealize.ShloMosaic.Lib.ValueLayout
public import Idealize.ShloMosaic.Lib.Pipeline.Value

@[expose] public section

noncomputable section

namespace Cert.Router

open Idealize.ShloMosaic Idealize.ShloMosaic.ValueIdx Cert.KernelIdeal Cert.KernelIdeal.Gen

variable {F : FTy → Type} [FloatOps F]

/-- The experts' numbers, down each column. -/
abbrev experts : IVec S64x1024 32 := iota .tc S64x1024 32 [0] iota_S64x1024_d0_w32

/-- Row `e` of the experts' numbers holds `e`. -/
theorem experts_apply (e : Fin 64) (j : Fin 1024) : experts (ix2 e j) = BitVec.ofNat 32 e.val :=
  iota_single_apply _ _ _ _ _ _

/-- The greatest score of each column. -/
abbrev rowMax (x : FVec F S64x1024 .f32) : FVec F S1x1024 .f32 :=
  shapeCast S1x1024 (multiReduction .maximumf [0] S1024 x 0xFF800000#32 reduces_S64x1024_S1024 (.inl rfl) rfl)
    shapeCasts_S1024_S1x1024

/-- The lowest expert of each column that holds its greatest score. -/
abbrev rowArg (x : FVec F S64x1024 .f32) : IVec S1x1024 32 :=
  shapeCast S1x1024 (multiReductionI .minsi [0] S1024
    (select (cmpf .oeq x (broadcastTo S64x1024 (rowMax x) broadcasts_S1x1024_S64x1024)) experts (broadcast S64x1024 64#32))
    2147483647#32 reduces_S64x1024_S1024 rfl) shapeCasts_S1024_S1x1024

/-- The block with each column's picked expert at `-∞`. -/
abbrev masked (x : FVec F S64x1024 .f32) : FVec F S64x1024 .f32 :=
  select (cmpi .eq experts (broadcastTo S64x1024 (rowArg x) broadcasts_S1x1024_S64x1024))
    (broadcast S64x1024 (Scalar.ofBits .f32 0xFF800000#32)) x

/-- The block after `r` rounds. -/
def rounds (x : FVec F S64x1024 .f32) (r : Nat) : FVec F S64x1024 .f32 := masked^[r] x

/-- One more round masks once more. -/
theorem rounds_succ (x : FVec F S64x1024 .f32) (r : Nat) : rounds x (r + 1) = masked (rounds x r) :=
  Function.iterate_succ_apply' masked r x

/-- The scores of the token in column `j`. -/
abbrev column (x : FVec Ideal S64x1024 .f32) (j : Fin 1024) : Fin 64 → EReal := fun e => x (ix2 e j)

/-- The word the kernel uses for `-∞` stands for `⊥`. -/
theorem negInf_word : Ideal.ofBits .f32 0xFF800000#32 = ⊥ := by
  simp [Ideal.ofBits, Ideal.ieee]

/-- The entry of a column at an expert, as the reduction over the experts' axis finds it. -/
theorem lift_column (h : S64x1024.Reduces [0] S1024) (j : Fin 1024) (e : Fin 64) : h.lift (ix1 j) e = ix2 e j :=
  Shape.idx_ext₂ rfl rfl

/-- A column maximum over any block is the fold of `max` from `⊥` over the column. -/
theorem maximum_column (x : FVec Ideal S64x1024 .f32) (h : S64x1024.Reduces [0] S1024) (hφ) (hacc) (j : Fin 1024) :
    multiReduction .maximumf [0] S1024 x 0xFF800000#32 h hφ hacc (ix1 j) = top (column x j) := by
  rw [Ideal.multiReduction_maximumf_single]
  show Finset.univ.fold max (Ideal.ofBits .f32 0xFF800000#32) _ = _
  rw [negInf_word]
  exact congrArg (Finset.univ.fold max ⊥) (funext fun e => congrArg x (lift_column h j e))

/-- A column sum over any block is the sum over the column. -/
theorem sum_column (x : FVec Ideal S64x1024 .f32) (h : S64x1024.Reduces [0] S1024) (hφ) (hacc) (j : Fin 1024) :
    multiReduction .add [0] S1024 x 0x00000000#32 h hφ hacc (ix1 j) = ∑ e, column x j e := by
  rw [Ideal.multiReduction_add_single]
  exact Finset.sum_congr rfl fun e _ => congrArg x (lift_column h j e)

/-- The row of maxima at column `j`. -/
theorem rowMax_apply (x : FVec Ideal S64x1024 .f32) (u : Fin 1) (j : Fin 1024) : rowMax x (ix2 u j) = top (column x j) := by
  exact (shapeCast_a_1a_apply _ _ u j).trans (maximum_column x _ _ _ j)

/-- A one-bit word chosen by an equation selects like the equation. -/
theorem select_decide {α : Type} (P : Prop) [Decidable P] (a b : α) :
    Scalar.select (BitVec.ofBool (decide P)) a b = if P then a else b := by
  by_cases h : P <;> simp [h, Scalar.select]

/-- The row of picked experts at column `j`. -/
theorem rowArg_apply (x : FVec Ideal S64x1024 .f32) (u : Fin 1) (j : Fin 1024) :
    rowArg x (ix2 u j) = firstAt (column x j) (top (column x j)) := by
  refine (shapeCast_a_1a_apply _ _ u j).trans ((multiReductionI_eq_fold _ _ _ _ _ _).trans
    ((reduces_S64x1024_S1024.fold_filter_drop_single _ _ _ _).trans ?_))
  refine congrArg (Finset.univ.fold IntOp.minsi 2147483647#32) (funext fun (e : Fin 64) => ?_)
  show select _ _ _ (reduces_S64x1024_S1024.lift (ix1 j) e) = _
  rw [lift_column, select_apply, cmpf_apply, broadcastTo_1b_ab_apply, rowMax_apply, experts_apply, broadcast_apply]
  exact select_decide (x (ix2 e j) = top (column x j)) _ _

/-- The masked block at column `j`. -/
theorem masked_apply (x : FVec Ideal S64x1024 .f32) (e : Fin 64) (j : Fin 1024) :
    masked x (ix2 e j) = if BitVec.ofNat 32 e.val = firstAt (column x j) (top (column x j)) then ⊥ else x (ix2 e j) := by
  unfold masked
  rw [select_apply]
  show Scalar.select (IntOp.cmpi .eq (experts (ix2 e j)) (broadcastTo S64x1024 (rowArg x) _ (ix2 e j))) _ _ = _
  rw [broadcastTo_1b_ab_apply, rowArg_apply, experts_apply, broadcast_apply, ← negInf_word]
  exact select_decide _ _ _

/-- Two experts with the same number word are the same. -/
theorem word_injective {a b : Fin 64} (h : BitVec.ofNat 32 a.val = BitVec.ofNat 32 b.val) : a = b := by
  have ha := toInt_word (n := a.val) (by omega)
  have hb := toInt_word (n := b.val) (by omega)
  rw [h, hb] at ha
  exact Fin.ext (by exact_mod_cast ha.symm)

/-- After `r` rounds a column holds what is left of it when the first `r` experts of its order are taken out. -/
theorem column_rounds (x : FVec Ideal S64x1024 .f32) (j : Fin 1024) (hx : ∀ e, column x j e ≠ ⊥) :
    ∀ r : Nat, r ≤ 64 → column (rounds x r) j = left (column x j) r
  | 0, _ => (left_zero _).symm
  | r + 1, hr => by
    have ih := column_rounds x j hx r (Nat.le_of_succ_le hr)
    funext e
    refine (congrFun (rounds_succ x r) (ix2 e j)).trans ((masked_apply (rounds x r) e j).trans ?_)
    refine Eq.trans ?_ (left_succ (column x j) ⟨r, hr⟩ e).symm
    rw [ih, firstAt_left (column x j) hx ⟨r, hr⟩]
    by_cases h : e = order (column x j) ⟨r, hr⟩
    · rw [if_pos (congrArg (fun k : Fin 64 => BitVec.ofNat 32 k.val) h), if_pos h]
    · rw [if_neg fun hw => h (word_injective hw), if_neg h]
      exact congrFun ih e

/-- The greatest score of column `j` in round `r` is that of the `r`-th expert of its order. -/
theorem rowMax_rounds (x : FVec Ideal S64x1024 .f32) (u : Fin 1) (j : Fin 1024) (hx : ∀ e, column x j e ≠ ⊥) (r : Fin 64) :
    rowMax (rounds x r.val) (ix2 u j) = column x j (order (column x j) r) := by
  rw [rowMax_apply, column_rounds x j hx r.val r.isLt.le, top_left _ hx]

/-- The expert picked in column `j` in round `r` is the `r`-th of its order. -/
theorem rowArg_rounds (x : FVec Ideal S64x1024 .f32) (u : Fin 1) (j : Fin 1024) (hx : ∀ e, column x j e ≠ ⊥) (r : Fin 64) :
    rowArg (rounds x r.val) (ix2 u j) = BitVec.ofNat 32 (order (column x j) r).val := by
  rw [rowArg_apply, column_rounds x j hx r.val r.isLt.le, firstAt_left _ hx]

end Cert.Router

end
-- ==== Proof.Block.lean ====
/-
  WHAT ONE GRID POINT STORES. Of its block of tokens and the gate's weights the body computes the block of probabilities, a
  softmax down each column, and then eight rounds; it stacks the eight rows of maxima, divided by their sum, and the eight
  rows of experts.
-/
module

public import proofs.«01_k».proof.Proof.Gen.KernelIdeal.Frame
public import proofs.«01_k».proof.Proof.Round
public import Idealize.ShloMosaic.Lib.MatmulPlain

@[expose] public section

noncomputable section

namespace Cert.Router

open Idealize.ShloMosaic Idealize.ShloMosaic.ValueIdx Cert.KernelIdeal Cert.KernelIdeal.Gen

/-- Eight rows stacked. -/
abbrev stack {α : Type} (f : Fin 8 → S1x1024.Idx → α) : S8x1024.Idx → α :=
  concatenate S8x1024 0 (List.ofFn fun r : Fin 8 => (⟨S1x1024, f r⟩ : (s : Shape) × (s.Idx → α)))
    concatenates_S1x1024_S1x1024_S1x1024_S1x1024_S1x1024_S1x1024_S1x1024_S1x1024_S8x1024_d0

/-- A stack at row `r` is row `r`. -/
theorem stack_apply {α : Type} (f : Fin 8 → S1x1024.Idx → α) (r : Fin 8) (j : Fin 1024) :
    stack f (ix2 r j) = f r (ix2 0 j) :=
  concatenate_ofFn_unit_apply (t := S8x1024) (s₁ := S1x1024) 0 f _ rfl rfl (ix2 r j) r rfl (ix2 0 j) fun b hb => by
    match b with
    | 0 => exact absurd rfl hb
    | 1 => rfl

variable {F : FTy → Type} [FloatOps F]

/-- The eight rows of maxima of a block. -/
abbrev maxima (p : FVec F S64x1024 .f32) : FVec F S8x1024 .f32 := stack fun r => rowMax (rounds p r.val)

/-- The eight rows of experts of a block. -/
abbrev picks (p : FVec F S64x1024 .f32) : IVec S8x1024 32 := stack fun r => rowArg (rounds p r.val)

/-- The maxima divided by their sum. -/
abbrev shares (c : FVec F S8x1024 .f32) : FVec F S8x1024 .f32 :=
  divf c (broadcastTo S8x1024 (shapeCast S1x1024
    (multiReduction .add [0] S1024 c 0x00000000#32 reduces_S8x1024_S1024 (.inl rfl) rfl) shapeCasts_S1024_S1x1024)
    broadcasts_S1x1024_S8x1024)

/-- The first store's value is the block of probabilities. -/
theorem out_probs (x : Vec F S1024x2048 .f32) (w : Vec F S64x2048 .f32) : out0_2 x w = k0_pay8 x w := by
  unfold out0_2
  rw [View.canon_unit_zero (by decide), View.ld_unit_zero (by decide), View.ld_unit_zero (by decide)]

/-- Eight rows listed one by one are their stack. -/
theorem stack_rows {α : Type} (f : Fin 8 → S1x1024.Idx → α) :
    concatenate S8x1024 0 [⟨S1x1024, f 0⟩, ⟨S1x1024, f 1⟩, ⟨S1x1024, f 2⟩, ⟨S1x1024, f 3⟩, ⟨S1x1024, f 4⟩, ⟨S1x1024, f 5⟩,
      ⟨S1x1024, f 6⟩, ⟨S1x1024, f 7⟩] concatenates_S1x1024_S1x1024_S1x1024_S1x1024_S1x1024_S1x1024_S1x1024_S1x1024_S8x1024_d0
      = stack f := rfl

/-- The second store's value, of rows known one by one. -/
theorem shares_rows (i : IVec S64x1024 32) (a0 a1 a2 a3 a4 a5 : FVec F S1x1024 .f32) (y z : FVec F S64x1024 .f32)
    (m : IVec S64x1024 1) (f : Fin 8 → FVec F S1x1024 .f32) (h0 : a0 = f 0) (h1 : a1 = f 1) (h2 : a2 = f 2) (h3 : a3 = f 3)
    (h4 : a4 = f 4) (h5 : a5 = f 5) (h6 : k0_pay2 y m z = f 6) (h7 : k0_pay5 i y m z = f 7) :
    k0_pay7 i a0 a1 a2 a3 a4 y a5 m z = shares (stack f) := by
  unfold k0_pay7
  rw [h0, h1, h2, h3, h4, h5, h6, h7]
  rfl

/-- The third store's value, of rows known one by one. -/
theorem picks_rows (a0 a1 a2 a3 a4 a5 : IVec S1x1024 32) (y z : FVec F S64x1024 .f32)
    (m : IVec S64x1024 1) (f : Fin 8 → IVec S1x1024 32) (h0 : a0 = f 0) (h1 : a1 = f 1) (h2 : a2 = f 2) (h3 : a3 = f 3)
    (h4 : a4 = f 4) (h5 : a5 = f 5) (h6 : k0_pay3 experts y m z = f 6) (h7 : rowArg (k0_pay4 experts y m z) = f 7) :
    k0_pay6 experts a0 a1 a2 a3 a4 y a5 m z = stack f := by
  have e : k0_pay6 experts a0 a1 a2 a3 a4 y a5 m z = concatenate S8x1024 0 [⟨S1x1024, a0⟩, ⟨S1x1024, a1⟩, ⟨S1x1024, a2⟩,
      ⟨S1x1024, a3⟩, ⟨S1x1024, a4⟩, ⟨S1x1024, a5⟩, ⟨S1x1024, k0_pay3 experts y m z⟩,
      ⟨S1x1024, rowArg (k0_pay4 experts y m z)⟩]
      concatenates_S1x1024_S1x1024_S1x1024_S1x1024_S1x1024_S1x1024_S1x1024_S1x1024_S8x1024_d0 := by rfl
  rw [e, h0, h1, h2, h3, h4, h5, h6, h7]
  rfl

/-! The blocks the body works through are those of the rounds, one after the other. -/

section blocks

variable (x : Vec F S1024x2048 .f32) (w : Vec F S64x2048 .f32)

/-- The block the last three rounds start from. -/
abbrev fifth : FVec F S64x1024 .f32 := k0_pay23 experts (k0_pay14 x w) (k0_pay15 x w)

/-- Where that block has its picked experts. -/
abbrev fifthPicked : IVec S64x1024 1 := k0_pay26 experts (k0_pay14 x w) (k0_pay15 x w)

/-- The probabilities are the block before the first round. -/
theorem block_zero : k0_pay8 x w = rounds (k0_pay8 x w) 0 := by rfl

/-- The block the second round starts from. -/
theorem block_one : k0_pay11 x w = rounds (k0_pay8 x w) 1 := by rw [rounds_succ, ← block_zero]; rfl

/-- The block the third round starts from. -/
theorem block_two : k0_pay14 x w = rounds (k0_pay8 x w) 2 := by rw [rounds_succ, ← block_one]; rfl

/-- The block the fourth round starts from. -/
theorem block_three : k0_pay17 experts (k0_pay14 x w) (k0_pay15 x w) = rounds (k0_pay8 x w) 3 := by
  rw [rounds_succ, ← block_two]; rfl

/-- The block the fifth round starts from. -/
theorem block_four : k0_pay20 experts (k0_pay14 x w) (k0_pay15 x w) = rounds (k0_pay8 x w) 4 := by
  rw [rounds_succ, ← block_three]; rfl

/-- The block the sixth round starts from. -/
theorem block_five : fifth x w = rounds (k0_pay8 x w) 5 := by rw [rounds_succ, ← block_four]; rfl

/-- The block the seventh round starts from. -/
theorem block_six : k0_pay1 (fifth x w) (fifthPicked x w) k0_pay27 = rounds (k0_pay8 x w) 6 := by
  rw [rounds_succ, ← block_five]; rfl

/-- The block the eighth round starts from. -/
theorem block_seven : k0_pay4 experts (fifth x w) (fifthPicked x w) k0_pay27 = rounds (k0_pay8 x w) 7 := by
  rw [rounds_succ, ← block_six]; rfl

/-- The second store's value is the stacked maxima divided by their sum. -/
theorem out_shares : out0_3 x w = shares (maxima (k0_pay8 x w)) := by
  unfold_out out0_3
  rw [View.canon_unit_zero (by decide), View.ld_unit_zero (by decide), View.ld_unit_zero (by decide)]
  exact shares_rows _ _ _ _ _ _ _ _ _ _ _ (congrArg rowMax (block_zero x w)) (congrArg rowMax (block_one x w))
    (congrArg rowMax (block_two x w)) (congrArg rowMax (block_three x w)) (congrArg rowMax (block_four x w))
    (congrArg rowMax (block_five x w)) (congrArg rowMax (block_six x w)) (congrArg rowMax (block_seven x w))

/-- The third store's value is the stacked picks. -/
theorem out_picks : out0_4 x w = picks (k0_pay8 x w) := by
  unfold_out out0_4
  rw [View.canon_unit_zero (by decide), View.ld_unit_zero (by decide), View.ld_unit_zero (by decide)]
  exact picks_rows _ _ _ _ _ _ _ _ _ _ (congrArg rowArg (block_zero x w)) (congrArg rowArg (block_one x w))
    (congrArg rowArg (block_two x w)) (congrArg rowArg (block_three x w)) (congrArg rowArg (block_four x w))
    (congrArg rowArg (block_five x w)) (congrArg rowArg (block_six x w)) (congrArg rowArg (block_seven x w))

end blocks

end Cert.Router

end
-- ==== Proof.Token.lean ====
/-
  WHAT ONE TOKEN'S ROUTING IS. From the 64 logits of a token: its probabilities, their softmax; the expert at each of the
  eight places; and the share of each of the eight. A grid point stores these for each token of its block, at the token's
  column, when no probability is `⊥`.
-/
module

public import proofs.«01_k».proof.Proof.Block

@[expose] public section

noncomputable section

namespace Cert.Router

open Idealize.ShloMosaic Idealize.ShloMosaic.ValueIdx Cert.KernelIdeal Cert.KernelIdeal.Gen

/-- The softmax of the logits `L`. -/
def softmax (L : Fin 64 → EReal) (e : Fin 64) : EReal :=
  Ideal.div (Ideal.exp (L e - top L)) (∑ d, Ideal.exp (L d - top L))

/-- The expert at place `r` among the eight best. -/
def best (p : Fin 64 → EReal) (r : Fin 8) : Fin 64 := order p ⟨r.val, by omega⟩

/-- The share of the expert at place `r`: its probability over the sum of the eight. -/
def share (p : Fin 64 → EReal) (r : Fin 8) : EReal := Ideal.div (p (best p r)) (∑ k, p (best p k))

/-- The logits of token `j` of a block. -/
abbrev logits {n : Nat} (x : (⟨2, ![n, 2048]⟩ : Shape).Idx → EReal) (w : S64x2048.Idx → EReal) (j : Fin n) (e : Fin 64) : EReal :=
  ∑ k : Fin 2048, w (ix2 e k) * x (ix2 j k)

/-- The probabilities of token `i`. -/
abbrev probs (x : FVec Ideal S16384x2048 .f32) (w : FVec Ideal S64x2048 .f32) (i : Fin 16384) : Fin 64 → EReal :=
  softmax (logits x w i)

/-- The routing of all tokens: their probabilities, one row per token, -/
def allProbs (x : FVec Ideal S16384x2048 .f32) (w : FVec Ideal S64x2048 .f32) : FVec Ideal S16384x64 .f32 :=
  fun i => probs x w (i 0) (i 1)

/-- the shares of the eight experts picked, -/
def allShares (x : FVec Ideal S16384x2048 .f32) (w : FVec Ideal S64x2048 .f32) : FVec Ideal S16384x8 .f32 :=
  fun i => share (probs x w (i 0)) (i 1)

/-- and those experts. -/
def allPicks (x : FVec Ideal S16384x2048 .f32) (w : FVec Ideal S64x2048 .f32) : IVec S16384x8 32 :=
  fun i => BitVec.ofNat 32 (best (probs x w (i 0)) (i 1)).val

/-- The block of logits, as the body computes it. -/
abbrev scores (x : FVec Ideal S1024x2048 .f32) (w : FVec Ideal S64x2048 .f32) : FVec Ideal S64x1024 .f32 :=
  matmul dot_S64x2048_S1024x2048_S64x1024_1_1_0_0_n_n none w x (constant S64x1024 .f32 0x00000000#32)

/-- Column `j` of the block of logits holds the logits of token `j`. -/
theorem scores_column (x : FVec Ideal S1024x2048 .f32) (w : FVec Ideal S64x2048 .f32) (j : Fin 1024) :
    column (scores x w) j = logits x w j := by
  funext e
  refine (Ideal.matmul_transposedRhs_apply none w x (constant S64x1024 .f32 0x00000000#32) e j).trans ?_
  rw [constant_apply, Ideal.ofBits_zero_f32, zero_add]

/-- The exponentials of a block less its column maxima. -/
abbrev exps (s : FVec Ideal S64x1024 .f32) : FVec Ideal S64x1024 .f32 :=
  exp (subf s (broadcastTo S64x1024 (rowMax s) broadcasts_S1x1024_S64x1024))

/-- They are those of the softmax. -/
theorem exps_apply (s : FVec Ideal S64x1024 .f32) (e : Fin 64) (j : Fin 1024) :
    exps s (ix2 e j) = Ideal.exp (column s j e - top (column s j)) := by
  show Ideal.exp (s (ix2 e j) - broadcastTo S64x1024 (rowMax s) _ (ix2 e j)) = _
  rw [broadcastTo_1b_ab_apply, rowMax_apply]

/-- Column `j` of the block of probabilities holds the softmax of token `j`'s logits. -/
theorem probs_column (x : FVec Ideal S1024x2048 .f32) (w : FVec Ideal S64x2048 .f32) (j : Fin 1024) :
    column (k0_pay8 x w) j = softmax (logits x w j) := by
  rw [← scores_column]
  funext e
  have hs : (broadcastTo S64x1024 (shapeCast S1x1024
      (multiReduction .add [0] S1024 (exps (scores x w)) 0x00000000#32 reduces_S64x1024_S1024 (.inl rfl) rfl)
      shapeCasts_S1024_S1x1024) broadcasts_S1x1024_S64x1024) (ix2 e j)
      = ∑ d, Ideal.exp (column (scores x w) j d - top (column (scores x w) j)) := by
    rw [broadcastTo_1b_ab_apply, shapeCast_a_1a_apply]
    exact (sum_column _ _ _ _ j).trans (Finset.sum_congr rfl fun d _ => exps_apply _ d j)
  exact congrArg₂ Ideal.div (exps_apply (scores x w) e j) hs

/-- The stacked shares at place `r` of column `j`. -/
theorem shares_apply (p : FVec Ideal S64x1024 .f32) (r : Fin 8) (j : Fin 1024) (hp : ∀ e, column p j e ≠ ⊥) :
    shares (maxima p) (ix2 r j) = share (column p j) r := by
  have hm : ∀ k : Fin 8, maxima p (ix2 k j) = column p j (best (column p j) k) := fun k =>
    (stack_apply _ k j).trans (rowMax_rounds p 0 j hp ⟨k.val, by omega⟩)
  have hs : (broadcastTo S8x1024 (shapeCast S1x1024
      (multiReduction .add [0] S1024 (maxima p) 0x00000000#32 reduces_S8x1024_S1024 (.inl rfl) rfl)
      shapeCasts_S1024_S1x1024) broadcasts_S1x1024_S8x1024) (ix2 r j) = ∑ k, column p j (best (column p j) k) := by
    rw [broadcastTo_1b_ab_apply, shapeCast_a_1a_apply]
    refine (Ideal.multiReduction_add_single _ _ _ _ _ _).trans (Finset.sum_congr rfl fun (k : Fin 8) _ => ?_)
    have hl : reduces_S8x1024_S1024.lift (ix1 j) k = ix2 k j := Shape.idx_ext₂ rfl rfl
    exact (congrArg (maxima p) hl).trans (hm k)
  exact congrArg₂ Ideal.div (hm r) hs

/-- The stacked picks at place `r` of column `j`. -/
theorem picks_apply (p : FVec Ideal S64x1024 .f32) (r : Fin 8) (j : Fin 1024) (hp : ∀ e, column p j e ≠ ⊥) :
    picks p (ix2 r j) = BitVec.ofNat 32 (best (column p j) r).val :=
  (stack_apply _ r j).trans (rowArg_rounds p 0 j hp ⟨r.val, by omega⟩)

end Cert.Router

end
-- ==== Proof.Array.lean ====
/-
  WHAT THE KERNEL'S ARRAYS HOLD AFTER THE GRID. Point `t` works on tokens `1024 t` to `1024 t + 1023` with the whole of the
  gate's weights, and writes the same columns of the three result arrays. So each array is one function of the arguments.
-/
module

public import proofs.«01_k».proof.Proof.Token
public import Idealize.ShloMosaic.Lib.Pipeline.ValueKit

@[expose] public section

noncomputable section

namespace Cert.Router

open Idealize.ShloMosaic hiding ix1 ix2 eq_ix1 eq_ix2
open Idealize.ShloMosaic.ValueIdx Idealize.ShloMosaic.TcCoe Idealize.ShloMosaic.Pipeline
open Cert.KernelIdeal Cert.KernelIdeal.Gen

variable (m : (ℓ : Loc nD τ sig) → Buf (Elt Ideal) ℓ) (c : Dev nD)

/-- The tokens, as the kernel is given them. -/
abbrev tokens : FVec Ideal S16384x2048 .f32 := m ((c : Thread nD τ).loc main_arg0)

/-- The gate's weights, as the kernel is given them. -/
abbrev gate : FVec Ideal S64x2048 .f32 := m ((c : Thread nD τ).loc main_arg1)

/-- Token `j` of point `t`, among all. -/
def token (t : Fin cfg0.N) (j : Fin 1024) : Fin 16384 :=
  ⟨t.val * 1024 + j.val, by have h : t.val < 16 := t.isLt; omega⟩

/-- The windows' block indices: tokens along their first axis, the weights whole, the results along their second. -/
theorem index_eq : ∀ t : Fin cfg0.N, win0_0.index t = ![t.val, 0] ∧ win0_1.index t = ![0, 0] ∧ win0_2.index t = ![0, t.val]
    ∧ win0_3.index t = ![0, t.val] ∧ win0_4.index t = ![0, t.val] :=
  (by decide +kernel : ∀ t : Fin grid0.N, _)

/-- A point's block of tokens. -/
theorem tokens_block (t : Fin cfg0.N) (j : Fin 1024) (k : Fin 2048) :
    iblk m c 0 t (ix2 j k) = tokens m c (ix2 (token t j) k) := by
  refine congrArg (tokens m c) (Shape.idx_ext₂ ?_ ?_)
  · exact (win0_0.rect_emb_val t (ix2 j k) 0).trans (by rw [(index_eq t).1]; rfl)
  · exact (win0_0.rect_emb_val t (ix2 j k) 1).trans (by rw [(index_eq t).1]; exact Nat.zero_add _)

/-- A point's block of weights. -/
theorem gate_block (t : Fin cfg0.N) (e : Fin 64) (k : Fin 2048) : iblk m c 1 t (ix2 e k) = gate m c (ix2 e k) := by
  refine congrArg (gate m c) (Shape.idx_ext₂ ?_ ?_)
  · exact (win0_1.rect_emb_val t (ix2 e k) 0).trans (by rw [(index_eq t).2.1]; exact Nat.zero_add _)
  · exact (win0_1.rect_emb_val t (ix2 e k) 1).trans (by rw [(index_eq t).2.1]; exact Nat.zero_add _)

/-- The logits a point works out are those of its tokens. -/
theorem logits_block (t : Fin cfg0.N) (j : Fin 1024) :
    logits (iblk m c 0 t) (iblk m c 1 t) j = logits (tokens m c) (gate m c) (token t j) := by
  funext e
  exact Finset.sum_congr rfl fun k _ => congrArg₂ (· * ·) (gate_block m c t e k) (tokens_block m c t j k)

/-- A column of the probabilities a point stores. -/
theorem probs_block (t : Fin cfg0.N) (j : Fin 1024) :
    column (k0_pay8 (iblk m c 0 t) (iblk m c 1 t)) j = probs (tokens m c) (gate m c) (token t j) :=
  (probs_column _ _ j).trans (congrArg softmax (logits_block m c t j))

/-- Every probability, one column per token. -/
theorem array_probs : (dats m 0 c).arrAt 2 cfg0.N
    = (fun i : S64x16384.Idx => probs (tokens m c) (gate m c) (i 1) (i 0)) := by
  refine (dats m 0 c).arrAt_eq_of_covers 2 _ (by decide +kernel) fun t _ y => ?_
  have he : ((cfg0.win 2).blk t).view.emb y = ix2 (y 0) (token t (y 1)) := by
    refine Shape.idx_ext₂ ?_ ?_
    · exact (win0_2.rect_emb_val t y 0).trans (by rw [(index_eq t).2.2.1]; exact Nat.zero_add _)
    · exact (win0_2.rect_emb_val t y 1).trans (by rw [(index_eq t).2.2.1]; rfl)
  rw [he, after0_2, out_probs]
  obtain ⟨e, j, rfl⟩ : ∃ (e : Fin 64) (j : Fin 1024), y = ix2 e j := ⟨y 0, y 1, eq_ix2 y⟩
  exact congrFun (probs_block m c t j) e

/-- Every share, one column per token. -/
theorem array_shares (hp : ∀ i e, probs (tokens m c) (gate m c) i e ≠ ⊥) : (dats m 0 c).arrAt 3 cfg0.N
    = (fun i : S8x16384.Idx => share (probs (tokens m c) (gate m c) (i 1)) (i 0)) := by
  refine (dats m 0 c).arrAt_eq_of_covers 3 _ (by decide +kernel) fun t _ y => ?_
  have he : ((cfg0.win 3).blk t).view.emb y = ix2 (y 0) (token t (y 1)) := by
    refine Shape.idx_ext₂ ?_ ?_
    · exact (win0_3.rect_emb_val t y 0).trans (by rw [(index_eq t).2.2.2.1]; exact Nat.zero_add _)
    · exact (win0_3.rect_emb_val t y 1).trans (by rw [(index_eq t).2.2.2.1]; rfl)
  rw [he, after0_3, out_shares]
  obtain ⟨r, j, rfl⟩ : ∃ (r : Fin 8) (j : Fin 1024), y = ix2 r j := ⟨y 0, y 1, eq_ix2 y⟩
  exact (shares_apply _ r j fun e => by rw [probs_block]; exact hp _ e).trans
    (congrArg (fun p => share p r) (probs_block m c t j))

/-- Every pick, one column per token. -/
theorem array_picks (hp : ∀ i e, probs (tokens m c) (gate m c) i e ≠ ⊥) : (dats m 0 c).arrAt 4 cfg0.N
    = (fun i : S8x16384.Idx => BitVec.ofNat 32 (best (probs (tokens m c) (gate m c) (i 1)) (i 0)).val) := by
  refine (dats m 0 c).arrAt_eq_of_covers 4 _ (by decide +kernel) fun t _ y => ?_
  have he : ((cfg0.win 4).blk t).view.emb y = ix2 (y 0) (token t (y 1)) := by
    refine Shape.idx_ext₂ ?_ ?_
    · exact (win0_4.rect_emb_val t y 0).trans (by rw [(index_eq t).2.2.2.2]; exact Nat.zero_add _)
    · exact (win0_4.rect_emb_val t y 1).trans (by rw [(index_eq t).2.2.2.2]; rfl)
  rw [he, after0_4, out_picks]
  obtain ⟨r, j, rfl⟩ : ∃ (r : Fin 8) (j : Fin 1024), y = ix2 r j := ⟨y 0, y 1, eq_ix2 y⟩
  exact (picks_apply _ r j fun e => by rw [probs_block]; exact hp _ e).trans
    (congrArg (fun p => BitVec.ofNat 32 (best p r).val) (probs_block m c t j))

/-- The buffers after the grid and the three transpositions that follow it. -/
abbrev afterward (b : Ref sig .tc) : Buf (Elt Ideal) ((c.tc : Thread nD τ).loc b) :=
  afterTail₀ cfgs (dats m) 0 (V0 m) [hostOps1] c b

/-- The buffers as the grid leaves them hold the windows' arrays. -/
theorem exit_array (w : Fin cfg0.W) :
    withArrays (cfgs 0).spec c (V0 m c) (fun w => (dats m 0 c).arrAt w (cfgs 0).N) (Proc.devRef .tc (arrRef spec0 w))
      = (dats m 0 c).arrAt w cfg0.N :=
  withArrays_arr spec0 (by decide) c (V0 m c) (fun w => (dats m 0 c).arrAt w cfg0.N) w

/-- What the three transpositions leave, whatever they start from. -/
theorem transposed (U : Valuation τ sig (Elt Ideal)) :
    StableHlo.after hostOps1 U (Proc.devRef .tc main_v1)
        = transpose S16384x64 [1, 0] (U (Proc.devRef .tc main_v0_0)) transposes_S64x16384_S16384x64_1_0
    ∧ StableHlo.after hostOps1 U (Proc.devRef .tc main_v2)
        = transpose S16384x8 [1, 0] (U (Proc.devRef .tc main_v0_1)) transposes_S8x16384_S16384x8_1_0
    ∧ StableHlo.after hostOps1 U (Proc.devRef .tc main_v3)
        = transpose S16384x8 [1, 0] (U (Proc.devRef .tc main_v0_2)) transposes_S8x16384_S16384x8_1_0 := by
  refine ⟨?_, ?_, ?_⟩ <;> after_results

/-- The first result: one row per token. -/
theorem after_probs : afterward m c main_v1 = allProbs (tokens m c) (gate m c) := by
  refine (transposed _).1.trans ?_
  funext i
  obtain ⟨a, e, rfl⟩ : ∃ (a : Fin 16384) (e : Fin 64), i = ix2 a e := ⟨i 0, i 1, eq_ix2 i⟩
  exact (transpose_ix2_apply _ _ a e).trans (congrFun ((exit_array m c 2).trans (array_probs m c)) (ix2 e a))

/-- The second, when no probability is `⊥`. -/
theorem after_shares (hp : ∀ i e, probs (tokens m c) (gate m c) i e ≠ ⊥) :
    afterward m c main_v2 = allShares (tokens m c) (gate m c) := by
  refine (transposed _).2.1.trans ?_
  funext i
  obtain ⟨a, r, rfl⟩ : ∃ (a : Fin 16384) (r : Fin 8), i = ix2 a r := ⟨i 0, i 1, eq_ix2 i⟩
  exact (transpose_ix2_apply _ _ a r).trans (congrFun ((exit_array m c 3).trans (array_shares m c hp)) (ix2 r a))

/-- The third, when no probability is `⊥`. -/
theorem after_picks (hp : ∀ i e, probs (tokens m c) (gate m c) i e ≠ ⊥) :
    afterward m c main_v3 = allPicks (tokens m c) (gate m c) := by
  refine (transposed _).2.2.trans ?_
  funext i
  obtain ⟨a, r, rfl⟩ : ∃ (a : Fin 16384) (r : Fin 8), i = ix2 a r := ⟨i 0, i 1, eq_ix2 i⟩
  exact (transpose_ix2_apply _ _ a r).trans (congrFun ((exit_array m c 4).trans (array_picks m c hp)) (ix2 r a))

end Cert.Router

end
-- ==== Proof.Finite.lean ====
/-
  THE PRECONDITION, READ. Every entry of the two arguments is below infinity in absolute value, so it is real. Then every
  logit of a token is real, each of its 64 exponentials is a positive real, and no probability is `⊥`.
-/
module

public import proofs.«01_k».proof.Proof.Token
public import proofs.«01_k».proof.Pre_finite

@[expose] public section

noncomputable section

namespace Cert.Router

open Idealize.ShloMosaic Idealize.ShloMosaic.ValueIdx

/-- The extended real `a` is a real number. -/
def IsReal (a : EReal) : Prop := ∃ r : ℝ, (r : EReal) = a

/-- The extended real `a` is a positive real number. -/
def Positive (a : EReal) : Prop := ∃ r : ℝ, 0 < r ∧ (r : EReal) = a

/-- What is below infinity in absolute value is real. -/
theorem real_of_below (a : EReal)
    (h : Ideal.cmp .olt (max a (-a)) (Ideal.ofBits .f32 0x7F800000#32) = 1#1) : IsReal a := by
  have hinf : Ideal.ofBits .f32 0x7F800000#32 = ⊤ := by simp [Ideal.ofBits, Ideal.ieee]
  rw [hinf] at h
  have hlt : max a (-a) < ⊤ := by
    by_contra hn
    simp [Ideal.cmp, hn] at h
  obtain ⟨h1, h2⟩ := max_lt_iff.1 hlt
  exact ⟨a.toReal, EReal.coe_toReal h1.ne fun hb => by simp [hb] at h2⟩

/-- The precondition says that every entry of both arguments is real. -/
theorem real_of_pre [Cert.Pre_finite.Facts] (x : FVec Ideal Cert.Pre_finite.S16384x2048 .f32)
    (w : FVec Ideal Cert.Pre_finite.S64x2048 .f32)
    (h : (Cert.Pre_finite.fn x w).1 = (fun _ => 1#1) ∧ (Cert.Pre_finite.fn x w).2 = (fun _ => 1#1)) :
    (∀ i, IsReal (x i)) ∧ ∀ i, IsReal (w i) :=
  ⟨fun i => real_of_below _ (congrFun h.1 i), fun i => real_of_below _ (congrFun h.2 i)⟩

/-- Of real arguments every logit is real. -/
theorem logits_real {n : Nat} (x : (⟨2, ![n, 2048]⟩ : Shape).Idx → EReal) (w : Cert.KernelIdeal.S64x2048.Idx → EReal)
    (hx : ∀ i, IsReal (x i)) (hw : ∀ i, IsReal (w i)) (j : Fin n) (e : Fin 64) : IsReal (logits x w j e) := by
  refine Finset.sum_induction _ IsReal ?_ ⟨0, rfl⟩ fun k _ => ?_
  · rintro _ _ ⟨a, rfl⟩ ⟨b, rfl⟩
    exact ⟨a + b, EReal.coe_add a b⟩
  · obtain ⟨a, ha⟩ := hw (ix2 e k)
    obtain ⟨b, hb⟩ := hx (ix2 j k)
    exact ⟨a * b, by rw [← ha, ← hb]; exact EReal.coe_mul a b⟩

/-- Of real logits no probability is `⊥`. -/
theorem softmax_ne_bot (L : Fin 64 → EReal) (hL : ∀ e, IsReal (L e)) (e : Fin 64) : softmax L e ≠ ⊥ := by
  have hbot : ∀ d, L d ≠ ⊥ := fun d => by
    obtain ⟨r, hr⟩ := hL d
    exact hr ▸ EReal.coe_ne_bot r
  have htop : top L = L (order L 0) := by
    have h := top_left L hbot 0
    rwa [show ((0 : Fin 64) : Nat) = 0 from rfl, left_zero] at h
  have hexp : ∀ d, Positive (Ideal.exp (L d - top L)) := fun d => by
    obtain ⟨a, ha⟩ := hL d
    obtain ⟨b, hb⟩ := hL (order L 0)
    refine ⟨Real.exp (a - b), Real.exp_pos _, ?_⟩
    rw [htop, ← ha, ← hb, ← EReal.coe_sub]
    rfl
  have hsum : Positive (∑ d, Ideal.exp (L d - top L)) := by
    refine Finset.sum_induction_nonempty _ Positive ?_ Finset.univ_nonempty fun d _ => hexp d
    rintro _ _ ⟨a, ha, rfl⟩ ⟨b, hb, rfl⟩
    exact ⟨a + b, add_pos ha hb, EReal.coe_add a b⟩
  obtain ⟨a, ha, ha'⟩ := hexp e
  obtain ⟨b, hb, hb'⟩ := hsum
  have hb0 : (b : EReal) ≠ 0 := by exact_mod_cast hb.ne'
  unfold softmax
  rw [← ha', ← hb', Ideal.div, if_neg hb0, ← EReal.coe_inv, ← EReal.coe_mul]
  exact EReal.coe_ne_bot _

end Cert.Router

end
-- ==== Proof.Reference.lean ====
/-
  WHAT THE REFERENCE COMPUTES. Its three results, read at a token, are that token's probabilities, shares and experts. This
  holds for every input, the infinite ones too.
-/
module

public import proofs.«01_k».proof.Proof.Token
public import proofs.«01_k».proof.Proof.Gen.ReferenceIdeal.Read
public import Idealize.ShloMosaic.Lib.KernelVsHost

@[expose] public section

noncomputable section

namespace Cert.Router

open Idealize.ShloMosaic Idealize.ShloMosaic.ValueIdx
open Cert.ReferenceIdeal Cert.ReferenceIdeal.Gen Cert.ReferenceIdeal.Read

variable (x : FVec Ideal S16384x2048 .f32) (w : FVec Ideal S64x2048 .f32)

/-- The logits. -/
theorem reference_logits (i : Fin 16384) (e : Fin 64) : val_main_v1 (F := Ideal) x w (ix2 i e) = logits x w i e := by
  refine (val_main_v1_apply x w (ix2 i e)).trans (Finset.sum_congr rfl fun k _ => ?_)
  rw [val_main_v0_apply, mul_comm]
  exact congrArg₂ (· * ·) (congrArg w (Shape.idx_ext₂ rfl rfl)) (congrArg x (Shape.idx_ext₂ rfl rfl))

/-- The greatest logit of a token. -/
theorem reference_top (i : Fin 16384) : val_main_v4 (F := Ideal) x w (ix1 i) = top (logits x w i) := by
  have hr : S16384x64.Reduces [1] S16384 := by decide
  have h : val_main_v2 (F := Ideal) x w (ix1 i) = top (logits x w i) := by
    have hL := reference_logits x w i
    unfold val_main_v2 val_main_cst
    generalize val_main_v1 (F := Ideal) x w = y at hL
    have hh := hostReduce_maximumf_eq_multiReduction (F := Ideal) (φ := .f32) y 0xFF800000#32 reducesTo_S16384x64_S16384_d1 h_S_ hr
      (by decide) (by decide)
    rw [hh, Ideal.multiReduction_maximumf_single]
    show Finset.univ.fold max (Ideal.ofBits .f32 0xFF800000#32) _ = _
    rw [negInf_word]
    refine congrArg (Finset.univ.fold max ⊥) (funext fun (e : Fin 64) => ?_)
    exact (show y (hr.lift (ix1 i) e) = y (ix2 i e) from congrArg y (Shape.idx_ext₂ rfl rfl)).trans (hL e)
  rw [val_main_v4_apply, val_main_v3_apply, val_main_cst_0_apply, h]
  show max (Ideal.ofBits .f32 0xFF800000#32) _ = _
  rw [negInf_word, bot_sup_eq]

/-- The exponentials. -/
theorem reference_exp (i : Fin 16384) (e : Fin 64) :
    val_main_v8 (F := Ideal) x w (ix2 i e) = Ideal.exp (logits x w i e - top (logits x w i)) := by
  rw [val_main_v8_apply, val_main_v7_apply, val_main_v6_apply, val_main_v5_apply, reference_logits, ← reference_top]
  exact congrArg (fun t => Ideal.exp (logits x w i e - t)) (congrArg (val_main_v4 (F := Ideal) x w) (eq_ix1 _))

/-- The first result: the probabilities. -/
theorem reference_probs : val_main_v12 (F := Ideal) x w = allProbs x w := by
  funext i
  obtain ⟨a, e, rfl⟩ : ∃ (a : Fin 16384) (e : Fin 64), i = ix2 a e := ⟨i 0, i 1, eq_ix2 i⟩
  rw [val_main_v12_apply, val_main_v11_apply, val_main_v10_apply, val_main_v9_apply, val_main_cst_1_apply, reference_exp]
  show _ = Ideal.div (Ideal.exp (logits x w a e - top (logits x w a))) (∑ d, Ideal.exp (logits x w a d - top (logits x w a)))
  refine congrArg (Ideal.div _) ((congrArg (· + _) Ideal.ofBits_zero_f32).trans ((zero_add _).trans
    (Finset.sum_congr rfl fun d _ => ?_)))
  refine (congrArg (val_main_v8 (F := Ideal) x w) ?_).trans (reference_exp x w a d)
  exact Shape.idx_ext₂ rfl rfl

/-- An entry of a row moved along the row. -/
theorem along_row (i : Fin 16384) (e k : Fin 64) : (ix2 i e : S16384x64.Idx).along 1 k = ix2 i k :=
  Shape.idx_ext₂ rfl rfl

/-- The sort's comparator on a row is the comparator of the row's order. -/
theorem compared (p : FVec Ideal S16384x64 .f32) (i : Fin 16384) (e : Fin 64) :
    (fun k k' : Fin 64 => FloatOps.cmpfTotal .gt (p ((ix2 i e : S16384x64.Idx).along 1 k)) (p ((ix2 i e : S16384x64.Idx).along 1 k')) == 1#1)
      = above fun d => p (ix2 i d) := by
  funext k k'
  rw [along_row, along_row]
  show (BitVec.ofBool (decide (p (ix2 i k') < p (ix2 i k))) == 1#1) = decide _
  cases decide (p (ix2 i k') < p (ix2 i k)) <;> rfl

/-- The row sorted, with anything carried along: entry `e` of both comes from the `e`-th expert of the order. -/
theorem sorted_row {β : Type} (p : FVec Ideal S16384x64 .f32) (y : S16384x64.Idx → β) (i : Fin 16384) (e : Fin 64) :
    (Host.sort2 S16384x64 1 (fun l r => FloatOps.cmpfTotal .gt l.1 r.1) p y).1 (ix2 i e) = p (ix2 i (order (fun d => p (ix2 i d)) e))
    ∧ (Host.sort2 S16384x64 1 (fun l r => FloatOps.cmpfTotal .gt l.1 r.1) p y).2 (ix2 i e)
        = y (ix2 i (order (fun d => p (ix2 i d)) e)) := by
  have h := congrArg (fun R => (ix2 i e : S16384x64.Idx).along 1 (sortedFrom R e)) (compared p i e)
  exact ⟨congrArg p (h.trans (along_row i e _)), congrArg y (h.trans (along_row i e _))⟩

/-- Where the reference's selection finds place `r` of a row: at the `r`-th expert of the order. -/
theorem selected (p : FVec Ideal S16384x64 .f32) (i : Fin 16384) (r : Fin 8) :
    (Host.topK S16384x8 1 (FloatOps.cmpfTotal .gt) p sliceFits_S16384x64_S16384x8).1 (ix2 i r)
        = p (ix2 i (best (fun e => p (ix2 i e)) r))
    ∧ (Host.topK S16384x8 1 (FloatOps.cmpfTotal .gt) p sliceFits_S16384x64_S16384x8).2 (ix2 i r)
        = BitVec.ofNat 32 (best (fun e => p (ix2 i e)) r).val := by
  have hk : ∀ a : Fin S16384x64.rank, ((ix2 i (⟨r.val, by omega⟩ : Fin 64) : S16384x64.Idx) a).val
      = (fun _ => 0 : Fin S16384x64.rank → Nat) a + ((ix2 i r : S16384x8.Idx) (a.cast sliceFits_S16384x64_S16384x8.1.symm)).val :=
    Fin.forall_fin_two.mpr ⟨(Nat.zero_add _).symm, (Nat.zero_add _).symm⟩
  have hs := sorted_row p (fun i => iotaInDim S16384x64 32 1 i) i ⟨r.val, by omega⟩
  exact ⟨(extractStridedSlice_apply _ _ sliceFits_S16384x64_S16384x8 _ _ hk).trans hs.1, (extractStridedSlice_apply _ _ sliceFits_S16384x64_S16384x8 _ _ hk).trans hs.2⟩

/-- The second result: the shares. -/
theorem reference_shares : val_main_v16 (F := Ideal) x w = allShares x w := by
  have h : ∀ (a : Fin 16384) (r : Fin 8), val_main_values (F := Ideal) x w (ix2 a r) = probs x w a (best (probs x w a) r) := fun a r => by
    refine (selected (val_main_v12 (F := Ideal) x w) a r).1.trans ?_
    rw [reference_probs]
    rfl
  funext i
  obtain ⟨a, r, rfl⟩ : ∃ (a : Fin 16384) (r : Fin 8), i = ix2 a r := ⟨i 0, i 1, eq_ix2 i⟩
  rw [val_main_v16_apply, val_main_v15_apply, val_main_v14_apply, val_main_v13_apply, val_main_cst_2_apply, h]
  show _ = Ideal.div (probs x w a (best (probs x w a) r)) (∑ k, probs x w a (best (probs x w a) k))
  refine congrArg (Ideal.div _) ((congrArg (· + _) Ideal.ofBits_zero_f32).trans ((zero_add _).trans
    (Finset.sum_congr rfl fun d _ => ?_)))
  refine (congrArg (val_main_values (F := Ideal) x w) ?_).trans (h a d)
  exact Shape.idx_ext₂ rfl rfl

/-- The third result: the experts picked. -/
theorem reference_picks : val_main_indices (F := Ideal) x w = allPicks x w := by
  funext i
  obtain ⟨a, r, rfl⟩ : ∃ (a : Fin 16384) (r : Fin 8), i = ix2 a r := ⟨i 0, i 1, eq_ix2 i⟩
  refine (selected (val_main_v12 (F := Ideal) x w) a r).2.trans ?_
  rw [reference_probs]
  rfl

end Cert.Router

end
-- ==== Proof.Runs.lean ====
/-
  THE TWO RUNS. The kernel and the reference end with the same three results, the routing of all tokens as functions of the
  arguments, and both leave the arguments unchanged.
-/
module

public import proofs.«01_k».proof.Proof.Array
public import proofs.«01_k».proof.Proof.Finite
public import proofs.«01_k».proof.Proof.Reference
public import Idealize.ShloMosaic.Lib.Quiescent

@[expose] public section

noncomputable section

namespace Cert.Router

open Idealize.ShloMosaic Idealize.SL.Sem Idealize.ShloMosaic.TcCoe Idealize.ShloMosaic.Pipeline

section Kernel

open Cert.KernelIdeal Cert.KernelIdeal.Gen

/-- The kernel's run, when no probability is `⊥`. -/
theorem kernel_run (m : (ℓ : Loc nD τ sig) → Buf (Elt Ideal) ℓ) (ρ : Dev nD → PrngReg)
    (hp : ∀ c i e, probs (tokens m c) (gate m c) i e ≠ ⊥) :
    θ_run (defs (F := Ideal)) (onTc (τ := τ) (main (F := Ideal))) ⟨m, fun _ => 0, ρ⟩ fun r => ∀ c : Dev nD,
      r.2.mem ((c.tc : Thread nD τ).loc main_v1) = allProbs (tokens m c) (gate m c)
      ∧ r.2.mem ((c.tc : Thread nD τ).loc main_v2) = allShares (tokens m c) (gate m c)
      ∧ r.2.mem ((c.tc : Thread nD τ).loc main_v3) = allPicks (tokens m c) (gate m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v1 (by decide)).trans (after_probs m c),
      ((h.1 c).2 main_v2 (by decide)).trans (after_shares m c (hp c)),
      ((h.1 c).2 main_v3 (by decide)).trans (after_picks m c (hp c)), h.2 c⟩)
    (θ_run_and (run_main m ρ) (unchanged m ρ))

end Kernel

section Reference

open Cert.ReferenceIdeal Cert.ReferenceIdeal.Gen

variable (m : (ℓ : Loc nD τ sig) → Buf (Elt Ideal) ℓ) (ρ : Dev nD → PrngReg)

/-- The reference's run. -/
theorem reference_run :
    θ_run (defs (F := Ideal)) (onTc (τ := τ) (main (F := Ideal))) ⟨m, fun _ => 0, ρ⟩ fun r => ∀ c : Dev nD,
      r.2.mem ((c.tc : Thread nD τ).loc main_v12)
        = allProbs (m ((c.tc : Thread nD τ).loc main_arg0)) (m ((c.tc : Thread nD τ).loc main_arg1))
      ∧ r.2.mem ((c.tc : Thread nD τ).loc main_v16)
        = allShares (m ((c.tc : Thread nD τ).loc main_arg0)) (m ((c.tc : Thread nD τ).loc main_arg1))
      ∧ r.2.mem ((c.tc : Thread nD τ).loc main_indices)
        = allPicks (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v12_eq _ _).trans (reference_probs _ _)),
      (h c).2.1.trans ((Read.val_main_v16_eq _ _).trans (reference_shares _ _)),
      (h c).2.2.1.trans ((Read.val_main_indices_eq _ _).trans (reference_picks _ _)), (h c).2.2.2⟩)
    (Value.run m ρ)

/-- The reference leaves its arguments unchanged, and it has no semaphores. -/
theorem reference_frame :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2, sem_eq_zero_of_no_sems (by decide) r.2⟩) (Value.run m ρ)

end Reference

end Cert.Router

end
-- ==== Proof.lean ====
/-
  THE CERTIFICATE. A mixture-of-experts router: for each of 16384 tokens the softmax of its 64 logits, the eight most probable
  experts, and their shares of the eight's sum. The kernel finds the eight by eight rounds of maximum, lowest index of the
  maximum, and masking by `-∞`; the reference by a sort. The modules, in order:

  * `Proof/Picks.lean`: on one token, the rounds pick what the sort puts first, when no score is `⊥`;
  * `Proof/Round.lean`: what one round does to a block of the kernel;
  * `Proof/Block.lean`: what a grid point stores is eight rounds on the probabilities;
  * `Proof/Token.lean`: the routing of one token, and that a point stores it at each of its tokens;
  * `Proof/Array.lean`: what the kernel's results hold, as functions of the arguments;
  * `Proof/Finite.lean`: finite arguments give probabilities other than `⊥`;
  * `Proof/Reference.lean`: what the reference's results hold;
  * `Proof/Runs.lean`: the runs of the two programs.

  Here they are put together.
-/
module

public import proofs.«01_k».proof.Defs
public import proofs.«01_k».proof.Proof.Gen.Kernel.Frame
public import proofs.«01_k».proof.Proof.Runs

@[expose] public section

noncomputable section

namespace Cert.Proof

open Idealize.ShloMosaic Idealize.SL.Sem Cert.Router

/-- The side conditions of the precondition. -/
instance finiteFacts : Cert.Pre_finite.Facts := ⟨by decide, by decide⟩

/-- Under the precondition the kernel and the reference end with equal results. -/
theorem algebraic : Cert.algebraic_KernelIdeal_ReferenceIdeal_pre_finite := by
  intro m ρ m' ρ' hpre hargs
  have hp : ∀ c i e, probs (tokens m c) (gate m c) i e ≠ ⊥ := fun c i e => by
    have h := real_of_pre (tokens m c) (gate m c) (hpre c)
    exact softmax_ne_bot _ (logits_real _ _ h.1 h.2 i) e
  refine ⟨fun c => allProbs (tokens m c) (gate m c), fun c => allShares (tokens m c) (gate m c),
    fun c => allPicks (tokens m c) (gate m c), kernel_run m ρ hp, ?_⟩
  refine (θ_run Cert.ReferenceIdeal.defs _ _).mono (fun r h c => ?_) (reference_run m' ρ')
  have hc := h c
  rw [(hargs c).1, (hargs c).2] at hc
  rw [(hargs c).1, (hargs c).2]
  exact hc

/-- All the claims of the certificate. -/
theorem claim : Cert.Claim :=
  ⟨Cert.Kernel.Gen.facts, Cert.KernelIdeal.Gen.facts, Cert.ReferenceIdeal.Gen.facts, finiteFacts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
